-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x256 : Shape := ⟨3, ![8, 256, 256]⟩
abbrev S8x16384x256 : Shape := ⟨3, ![8, 16384, 256]⟩
abbrev S8x1x256 : Shape := ⟨3, ![8, 1, 256]⟩
abbrev S1x16384x256 : Shape := ⟨3, ![1, 16384, 256]⟩
abbrev S1x256x256 : Shape := ⟨3, ![1, 256, 256]⟩
abbrev S1x1x256 : Shape := ⟨3, ![1, 1, 256]⟩
abbrev S16384x256 : Shape := ⟨2, ![16384, 256]⟩
abbrev S256x256 : Shape := ⟨2, ![256, 256]⟩
abbrev S16384 : Shape := ⟨1, ![16384]⟩
abbrev S16384x1 : Shape := ⟨2, ![16384, 1]⟩
abbrev S256 : Shape := ⟨1, ![256]⟩
abbrev S1x256 : Shape := ⟨2, ![1, 256]⟩
abbrev S256x1 : Shape := ⟨2, ![256, 1]⟩
abbrev S8x256 : Shape := ⟨2, ![8, 256]⟩

abbrev nBuf : Space → Nat
  | .hbm => 4
  | .vmem => 6
  | .smem => 0
  | _ => 0

abbrev bufTy : (tb : Table) → Fin (tcTables nBuf tb) → BufTy
  | .hbm, ⟨0, _⟩ => ⟨S8x256x256, .f32⟩
  | .hbm, ⟨1, _⟩ => ⟨S8x16384x256, .f32⟩
  | .hbm, ⟨2, _⟩ => ⟨S8x1x256, .i32⟩
  | .hbm, ⟨3, _⟩ => ⟨S8x256, .i32⟩
  | .local _ .vmem, ⟨0, _⟩ => ⟨S1x16384x256, .f32⟩
  | .local _ .vmem, ⟨1, _⟩ => ⟨S1x16384x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .i32⟩
  | .local _ .vmem, ⟨5, _⟩ => ⟨S1x1x256, .i32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x256x256 : Shape := ⟨3, ![8, 256, 256]⟩
abbrev S8x16384x256 : Shape := ⟨3, ![8, 16384, 256]⟩
abbrev S_ : Shape := ⟨0, ![]⟩
abbrev S8x16384 : Shape := ⟨2, ![8, 16384]⟩
abbrev S8 : Shape := ⟨1, ![8]⟩
abbrev S8x1 : Shape := ⟨2, ![8, 1]⟩
abbrev S131072 : Shape := ⟨1, ![131072]⟩
abbrev S16384 : Shape := ⟨1, ![16384]⟩
abbrev S1x16384 : Shape := ⟨2, ![1, 16384]⟩
abbrev S2048 : Shape := ⟨1, ![2048]⟩
abbrev S131072x1 : Shape := ⟨2, ![131072, 1]⟩
abbrev S8x256 : Shape := ⟨2, ![8, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S8x16384x256, .f32⟩
  | .hbm, ⟨2, _⟩ => ⟨S8x16384x256, .f32⟩
  | .hbm, ⟨3, _⟩ => ⟨S8x16384x256, .i32⟩
  | .hbm, ⟨4, _⟩ => ⟨S_, .f32⟩
  | .hbm, ⟨5, _⟩ => ⟨S_, .i32⟩
  | .hbm, ⟨6, _⟩ => ⟨S8x16384, .f32⟩
  | .hbm, ⟨7, _⟩ => ⟨S8x16384, .i32⟩
  | .hbm, ⟨8, _⟩ => ⟨S8, .i32⟩
  | .hbm, ⟨9, _⟩ => ⟨S8x1, .i32⟩
  | .hbm, ⟨10, _⟩ => ⟨S_, .i32⟩
  | .hbm, ⟨11, _⟩ => ⟨S8x1, .i32⟩
  | .hbm, ⟨12, _⟩ => ⟨S8x1, .i32⟩
  | .hbm, ⟨13, _⟩ => ⟨S8x16384, .i32⟩
  | .hbm, ⟨14, _⟩ => ⟨S8x16384, .i32⟩
  | .hbm, ⟨15, _⟩ => ⟨S131072, .i32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S1x16384, .f32⟩
  | .hbm, ⟨24, _⟩ => ⟨S8x16384, .f32⟩
  | .hbm, ⟨25, _⟩ => ⟨S131072, .f32⟩
  | .hbm, ⟨26, _⟩ => ⟨S_, .f32⟩
  | .hbm, ⟨27, _⟩ => ⟨S131072, .f32⟩
  | .hbm, ⟨28, _⟩ => ⟨S_, .f32⟩
  | .hbm, ⟨29, _⟩ => ⟨S2048, .f32⟩
  | .hbm, ⟨30, _⟩ => ⟨S131072x1, .i32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S131072x1, .i32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S8x256, .f32⟩
  | .hbm, ⟨41, _⟩ => ⟨S_, .f32⟩
  | .hbm, ⟨42, _⟩ => ⟨S8x256, .f32⟩
  | .hbm, ⟨43, _⟩ => ⟨S8x256, .f32⟩
  | .hbm, ⟨44, _⟩ => ⟨S8x256, .i32⟩
  | .hbm, ⟨45, _⟩ => ⟨S8x256, .f32⟩
  | .hbm, ⟨46, _⟩ => ⟨S8x256, .i32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_call1_v0 : Ref sig .tc := ⟨.hbm, 44, rfl⟩
abbrev main_call1_v1_0 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Order.lean ====
/-
  A stable sort of the positions of a finite row, read through RANKS: the number of positions that stand before
  a given one (by value, ties by position). The sorted row's entry at place `p` is the position of rank `p`.
-/
module

public import Idealize.ShloMosaic.Lib.SortFacts
public import Mathlib.Data.EReal.Basic
public import Mathlib.Data.Fintype.Card

@[expose] public section

noncomputable section

open Idealize.ShloMosaic
open scoped Classical

namespace Cert.Order

variable {n : ℕ}

/-- `j` stands before `i`: a smaller value, or the same value at a smaller position. -/
def Before (o : Fin n → EReal) (j i : Fin n) : Prop := o j < o i ∨ (o j = o i ∧ j < i)

/-- How many positions stand before `i`. -/
def rank (o : Fin n → EReal) (i : Fin n) : ℕ := (Finset.univ.filter fun j => Before o j i).card

/-- No position comes before itself. -/
theorem before_irrefl (o : Fin n → EReal) (i : Fin n) : ¬ Before o i i := by
  rintro (h | ⟨_, h⟩)
  · exact lt_irrefl _ h
  · exact lt_irrefl _ h

/-- Coming before is transitive. -/
theorem before_trans (o : Fin n → EReal) {a b c : Fin n} (hab : Before o a b) (hbc : Before o b c) : Before o a c := by
  rcases hab with h | ⟨h, h'⟩ <;> rcases hbc with k | ⟨k, k'⟩
  · exact Or.inl (h.trans k)
  · exact Or.inl (k ▸ h)
  · exact Or.inl (h ▸ k)
  · exact Or.inr ⟨h.trans k, h'.trans k'⟩

/-- Of two positions one comes before the other. -/
theorem before_total (o : Fin n → EReal) {a b : Fin n} (hab : a ≠ b) : Before o a b ∨ Before o b a := by
  rcases lt_trichotomy (o a) (o b) with h | h | h
  · exact Or.inl (Or.inl h)
  · rcases lt_or_gt_of_ne hab with k | k
    · exact Or.inl (Or.inr ⟨h, k⟩)
    · exact Or.inr (Or.inr ⟨h.symm, k⟩)
  · exact Or.inr (Or.inl h)

/-- Two sorting relations that agree whenever the first element comes later in the row sort it alike. -/
theorem stableSort_congr_later (R R' : Fin n → Fin n → Bool) (h : ∀ a b : Fin n, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The sort asks its relation only of a later position against an earlier one. -/
theorem sortedFrom_congr_later (R R' : Fin n → Fin n → Bool) (h : ∀ a b : Fin n, a < b → R b a = R' b a) :
    sortedFrom R = sortedFrom R' := by
  have e : sortPositions n R = sortPositions n R' :=
    stableSort_congr_later R R' h _ (List.pairwise_lt_finRange n)
  funext k
  unfold sortedFrom
  rw [List.get_of_eq e]
  rfl

/-- The sources of a stable sort by value come in the order of `Before`. -/
theorem before_sortedFrom (o : Fin n → EReal) (R : Fin n → Fin n → Bool) (hR : ∀ a b, R a b = decide (o a < o b))
    (i j : Fin n) (hij : i < j) : Before o (sortedFrom R i) (sortedFrom R j) := by
  have e : sortedFrom R = sortedFrom fun a b => decide (Before o a b) := by
    refine sortedFrom_congr_later _ _ fun a b hab => ?_
    rw [hR]
    refine decide_eq_decide.mpr ⟨Or.inl, ?_⟩
    rintro (h | ⟨_, h⟩)
    · exact h
    · exact absurd hab (not_lt.mpr h.le)
  have hne : sortedFrom R i ≠ sortedFrom R j := fun h => hij.ne (sortedFrom_injective R h)
  have hno := sortedFrom_noInversion (fun a b => decide (Before o a b)) (fun a b => decide (Before o a b))
    (fun a b h => decide_eq_false fun h' => before_irrefl o a (before_trans o (of_decide_eq_true h) h'))
    (fun a b h => h)
    (fun a b c hab hbc => decide_eq_false fun hac => by
      have hab := of_decide_eq_false hab
      have hbc := of_decide_eq_false hbc
      by_cases h : a = b
      · exact hbc (h ▸ hac)
      · rcases before_total o h with k | k
        · exact hab k
        · exact hbc (before_trans o k hac)) i j hij
  rw [← e] at hno
  rcases before_total o hne with h | h
  · exact h
  · exact absurd h (of_decide_eq_false hno)

/-- The entry at place `p` of the sorted positions is the position of rank `p`. -/
theorem rank_sortedFrom (o : Fin n → EReal) (R : Fin n → Fin n → Bool) (hR : ∀ a b, R a b = decide (o a < o b))
    (p : Fin n) : rank o (sortedFrom R p) = p := by
  have e : (Finset.univ.filter fun j => Before o j (sortedFrom R p)) = (Finset.Iio p).image (sortedFrom R) := by
    ext j
    simp only [Finset.mem_filter, Finset.mem_univ, true_and, Finset.mem_image, Finset.mem_Iio]
    constructor
    · intro h
      obtain ⟨k, rfl⟩ := sortedFrom_surjective R j
      refine ⟨k, ?_, rfl⟩
      rcases lt_trichotomy k p with hk | rfl | hk
      · exact hk
      · exact absurd h (before_irrefl o _)
      · exact absurd (before_trans o h (before_sortedFrom o R hR p k hk)) (before_irrefl o _)
    · rintro ⟨k, hk, rfl⟩
      exact before_sortedFrom o R hR k p hk
  rw [rank, e, Finset.card_image_of_injective _ (sortedFrom_injective R), Fin.card_Iio]

/-- Ranks tell positions apart: each place has one position. -/
theorem rank_eq_iff (o : Fin n → EReal) (R : Fin n → Fin n → Bool) (hR : ∀ a b, R a b = decide (o a < o b))
    (i p : Fin n) : rank o i = p ↔ i = sortedFrom R p := by
  constructor
  · intro h
    obtain ⟨k, rfl⟩ := sortedFrom_surjective R i
    rw [rank_sortedFrom o R hR] at h
    rw [Fin.ext h]
  · rintro rfl
    exact rank_sortedFrom o R hR p

/-- A rank is less than the number of positions. -/
theorem rank_lt (o : Fin n → EReal) (i : Fin n) : rank o i < n := by
  obtain ⟨k, rfl⟩ := sortedFrom_surjective (fun a b => decide (o a < o b)) i
  rw [rank_sortedFrom o _ (fun _ _ => rfl)]
  exact k.isLt

end Cert.Order

end
-- ==== Proof.Spec.lean ====
/-
  The mathematics both programs compute, over the extended reals: a row of text CHOOSES its first query of largest
  score, and a query's value is 256 less the mean weight of the rows that choose it.
-/
module

public import Idealize.ShloMosaic.PureOps.Ideal
public import Idealize.ShloMosaic.Lib.IdealHost
public import Idealize.ShloMosaic.Lib.SortFacts

@[expose] public section

noncomputable section

open Idealize.ShloMosaic
open scoped Classical

namespace Cert.Spec

/-- `k` is the first position at which the row `f` is largest. -/
def First (f : Fin 256 → EReal) (k : Fin 256) : Prop := (∀ i, f i ≤ f k) ∧ ∀ i, i < k → ¬ ∀ j, f j ≤ f i

/-- A row is largest first at one position only. -/
theorem First.unique {f : Fin 256 → EReal} {k k' : Fin 256} (h : First f k) (h' : First f k') : k = k' := by
  rcases lt_trichotomy k k' with hk | hk | hk
  · exact absurd h.1 (h'.2 k hk)
  · exact hk
  · exact absurd h'.1 (h.2 k' hk)

/-- The weight of row `t` of 16384: `16384 - t`. -/
def weight (t : Fin 16384) : EReal := ((16384 - (t : ℕ) : ℝ) : EReal)

/-- Query `k`'s value under the scores `s`: 256 less the weights of the rows that choose it over their number, the
    number raised by the constant the programs add to it. -/
def value (s : Fin 16384 → Fin 256 → EReal) (k : Fin 256) : EReal :=
  Ideal.ofBits .f32 0x43800000#32 -
    Ideal.div (∑ t, if First (s t) k then weight t else 0)
      ((∑ t, if First (s t) k then (1 : EReal) else 0) + Ideal.ofBits .f32 0x3A83126F#32)

/-- Row `t`'s score at query `k`. -/
def score (x : Fin 16384 → Fin 256 → EReal) (y : Fin 256 → Fin 256 → EReal) (t : Fin 16384) (k : Fin 256) : EReal :=
  ∑ d, x t d * y k d

/-- The query at place `p` of the order of the values, equal values in the order of the queries. -/
def order (x : Fin 16384 → Fin 256 → EReal) (y : Fin 256 → Fin 256 → EReal) (p : Fin 256) : Fin 256 :=
  sortedFrom (fun a b => decide (value (score x y) a < value (score x y) b)) p

end Cert.Spec

end
-- ==== Proof.KernelBlock.lean ====
/-
  What the kernel's body computes of one batch: the values of the 256 queries (its first payload, opened in stages) and
  the order of those values (its second), each read at an index.
-/
module

public import proofs.«01_k».proof.Defs
public import proofs.«01_k».proof.Proof.Gen.KernelIdeal.Frame
public import proofs.«01_k».proof.Proof.Order
public import proofs.«01_k».proof.Proof.Spec
public import Idealize.ShloMosaic.Lib.Pointwise
public import Idealize.ShloMosaic.Lib.Pipeline.ValueKit
public import Idealize.ShloMosaic.Lib.IndicatorCount
public import Idealize.ShloMosaic.Lib.WordCmp

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen

/-! ## Words and indicators -/

/-- A one-bit word, widened and read as a number, is one or zero. -/
theorem number_bit (b : BitVec 1) :
    (FloatOps.sitofp (F := Ideal) FTy.f32 (BitVec.setWidth 32 b) : EReal) = if b = 1#1 then 1 else 0 := by
  have h : b = 0#1 ∨ b = 1#1 := by
    revert b
    decide
  rcases h with rfl | rfl
  · show (((BitVec.setWidth 32 0#1).toInt : ℝ) : EReal) = _
    rw [if_neg (by decide), show (BitVec.setWidth 32 0#1).toInt = 0 by decide]
    simp
  · show (((BitVec.setWidth 32 1#1).toInt : ℝ) : EReal) = _
    rw [if_pos rfl, show (BitVec.setWidth 32 1#1).toInt = 1 by decide]
    simp

/-- Minus infinity's word is the bottom of the extended reals. -/
theorem ofBits_bot : Ideal.ofBits .f32 0xFF800000#32 = ⊥ := by
  simp [Ideal.ofBits, Ideal.ieee]

/-- The signed comparison of two small words is that of their numbers. -/
theorem slt_ofNat {a b : ℕ} (ha : a < 2 ^ 31) (hb : b < 2 ^ 31) :
    IntOp.cmpi .slt (BitVec.ofNat 32 a) (BitVec.ofNat 32 b) = 1#1 ↔ a < b := by
  rw [WordCmp.cmpi_slt_ofNat ha hb, WordCmp.ofBool_decide_eq_one_iff]

/-- Two small words are equal exactly when their numbers are. -/
theorem eq_ofNat {a b : ℕ} (ha : a < 2 ^ 31) (hb : b < 2 ^ 31) :
    IntOp.cmpi .eq (BitVec.ofNat 32 a) (BitVec.ofNat 32 b) = 1#1 ↔ a = b := by
  rw [WordCmp.cmpi_eq_eq, WordCmp.ofBool_decide_eq_one_iff, WordCmp.ofNat_eq_ofNat_iff (by omega) (by omega)]

/-- The word of `16384 - t`, read as a number, is row `t`'s weight. -/
theorem number_weight (t : Fin 16384) :
    (FloatOps.sitofp (F := Ideal) FTy.f32 (IntOp.subi (16384#32) (BitVec.ofNat 32 (t : ℕ))) : EReal) = Spec.weight t := by
  have ht := t.isLt
  have e : IntOp.subi (16384#32) (BitVec.ofNat 32 (t : ℕ)) = BitVec.ofNat 32 (16384 - t) := by
    apply BitVec.eq_of_toNat_eq
    show (16384#32 - BitVec.ofNat 32 (t : ℕ)).toNat = _
    simp only [BitVec.toNat_sub, BitVec.toNat_ofNat]
    omega
  show ((BitVec.toInt (IntOp.subi (16384#32) (BitVec.ofNat 32 (t : ℕ))) : ℝ) : EReal) = _
  rw [e, WordCmp.toInt_ofNat_of_lt (by omega), Spec.weight]
  push_cast [Nat.cast_sub ht.le]
  rfl

/-! ## The values -/

/-- The block's scores. -/
def scores (x : Vec Ideal S1x16384x256 .f32) (y : Vec Ideal S1x256x256 .f32) : FVec Ideal S16384x256 .f32 :=
  matmul (F := Ideal) (φ₁ := .f32) (φ₂ := .f32) dot_S16384x256_S256x256_S16384x256_1_1_0_0_n_n none
    (shapeCast S16384x256 (x : FVec Ideal S1x16384x256 .f32) shapeCasts_S1x16384x256_S16384x256) (shapeCast S256x256 (y : FVec Ideal S1x256x256 .f32) shapeCasts_S1x256x256_S256x256)
    (constant S16384x256 .f32 0x00000000#32)

/-- The rows' largest scores. -/
def rowmax (s : FVec Ideal S16384x256 .f32) : FVec Ideal S16384 .f32 :=
  multiReduction .maximumf [1] S16384 s 0xFF800000#32 reduces_S16384x256_S16384 (.inl rfl) rfl

/-- Where a row of scores is largest. -/
def largest (s : FVec Ideal S16384x256 .f32) : IVec S16384x256 1 :=
  cmpf .oge s (broadcastTo S16384x256 (shapeCast S16384x1 (rowmax s) shapeCasts_S16384_S16384x1)
    broadcasts_S16384x1_S16384x256)

/-- One where a row is largest and was not largest earlier, zero elsewhere. -/
def firsts (e : IVec S16384x256 1) : FVec Ideal S16384x256 .f32 :=
  select (andi e (cmpf (F := Ideal) (φ := .f32) .oeq
      (matmul (φ₁ := .f32) (φ₂ := .f32) dot_S16384x256_S256x256_S16384x256_1_0_0_1_n_n none
        (sitofp .f32 (extui 32 e natLt_1_32))
        (sitofp .f32 (extui 32 (cmpi .slt (iota .tc S256x256 32 [0] iota_S256x256_d0_w32)
          (iota .tc S256x256 32 [1] iota_S256x256_d1_w32)) natLt_1_32))
        (constant S16384x256 .f32 0x00000000#32))
      (broadcast S16384x256 (Scalar.ofBits .f32 0x00000000#32))))
    (broadcast S16384x256 (Scalar.ofBits .f32 0x3F800000#32)) (broadcast S16384x256 (Scalar.ofBits .f32 0x00000000#32))

/-- The row values from the indicator of the first largest positions. -/
def values (f : FVec Ideal S16384x256 .f32) : FVec Ideal S256x256 .f32 :=
  broadcastTo S256x256 (shapeCast S1x256
    (subf (broadcast S1x256 (Scalar.ofBits .f32 0x43800000#32))
      (divf
        (shapeCast S1x256 (multiReduction .add [0] S256
          (mulf f (sitofp .f32 (subi (broadcast S16384x256 16384#32) (iota .tc S16384x256 32 [0] iota_S16384x256_d0_w32))))
          0x00000000#32 reduces_S16384x256_S256 (.inl rfl) rfl) shapeCasts_S256_S1x256)
        (addf (shapeCast S1x256 (multiReduction .add [0] S256 f 0x00000000#32 reduces_S16384x256_S256 (.inl rfl) rfl)
          shapeCasts_S256_S1x256) (broadcast S1x256 (Scalar.ofBits .f32 0x3A83126F#32)))))
    shapeCasts_S1x256_S1x256) broadcasts_S1x256_S256x256

/-- The kernel's first payload is its stages, one after the other. -/
theorem pay2_eq (x : Vec Ideal S1x16384x256 .f32) (y : Vec Ideal S1x256x256 .f32) :
    k0_pay2 x y = values (firsts (largest (scores x y))) := rfl

/-- A score is the product of a row of the text with a query. -/
theorem scores_apply (x : Vec Ideal S1x16384x256 .f32) (y : Vec Ideal S1x256x256 .f32) (t : Fin 16384) (k : Fin 256) :
    scores x y (ix2 t k) = Spec.score (fun t d => x (ix3 0 t d)) (fun k d => y (ix3 0 k d)) t k := by
  pointwise [scores]
  rfl

/-- The largest score of row `t`. -/
theorem rowmax_apply (s : FVec Ideal S16384x256 .f32) (t : Fin 16384) :
    rowmax s (ix1 t) = (Finset.univ.fold max (Ideal.ofBits .f32 0xFF800000#32) fun k => s (ix2 t k) : EReal) := by
  pointwise [rowmax]

/-- A column spread over its rows. -/
theorem column_apply (v : FVec Ideal S16384 .f32) (t : Fin 16384) (k : Fin 256) :
    broadcastTo S16384x256 (shapeCast S16384x1 v shapeCasts_S16384_S16384x1) broadcasts_S16384x1_S16384x256 (ix2 t k)
      = v (ix1 t) := by
  have h : broadcastTo S16384x256 (shapeCast S16384x1 v shapeCasts_S16384_S16384x1) broadcasts_S16384x1_S16384x256
      (ix2 t k) = shapeCast S16384x1 v shapeCasts_S16384_S16384x1 (ix2 t 0) := by
    generalize shapeCast S16384x1 v shapeCasts_S16384_S16384x1 = w
    pointwise
  rw [h]
  pointwise

/-- An entry is marked exactly when no entry of its row is larger. -/
theorem largest_apply (s : FVec Ideal S16384x256 .f32) (t : Fin 16384) (k : Fin 256) :
    largest s (ix2 t k) = 1#1 ↔ ∀ i, s (ix2 t i) ≤ s (ix2 t k) := by
  have h : largest s (ix2 t k) = BitVec.ofBool (decide
      ((Finset.univ.fold max (Ideal.ofBits .f32 0xFF800000#32) fun k => s (ix2 t k) : EReal) ≤ s (ix2 t k))) := by
    have hc : ∀ w : FVec Ideal S16384x256 .f32, cmpf .oge s w (ix2 t k)
        = BitVec.ofBool (decide ((w (ix2 t k) : EReal) ≤ s (ix2 t k))) := by
      intro w
      pointwise
    rw [largest, hc, column_apply, rowmax_apply]
  rw [h, WordCmp.ofBool_decide_eq_one_iff, Finset.fold_max_le, ofBits_bot]
  simp

/-- An entry is kept exactly when it is marked and no earlier entry of its row is. -/
theorem firsts_apply (e : IVec S16384x256 1) (t : Fin 16384) (k : Fin 256) :
    firsts e (ix2 t k) = if e (ix2 t k) = 1#1 ∧ ∀ i, i < k → ¬ e (ix2 t i) = 1#1 then (1 : EReal) else 0 := by
  pointwise [firsts]
  have hs : (∑ x : Fin 256, (FloatOps.sitofp (F := Ideal) FTy.f32 (BitVec.setWidth 32 (e (ix2 t x))) : EReal) *
      FloatOps.sitofp (F := Ideal) FTy.f32
        (BitVec.setWidth 32 (IntOp.cmpi CmpIPredicate.slt (BitVec.ofNat 32 ↑x) (BitVec.ofNat 32 ↑k))) = (0 : EReal))
      ↔ ∀ i, i < k → ¬ e (ix2 t i) = 1#1 := by
    simp only [number_bit]
    rw [Finset.sum_eq_zero_iff_of_nonneg (fun i _ => by split_ifs <;> simp)]
    refine forall_congr' fun i => ?_
    have hi : IntOp.cmpi .slt (BitVec.ofNat 32 ↑i) (BitVec.ofNat 32 ↑k) = 1#1 ↔ (i : ℕ) < k :=
      slt_ofNat (by omega) (by omega)
    simp only [hi, Finset.mem_univ, true_implies, Fin.lt_def]
    by_cases h1 : e (ix2 t i) = 1#1 <;> by_cases h2 : (i : ℕ) < k <;> simp [h1, h2]
  by_cases h1 : e (ix2 t k) = 1#1
  · by_cases h2 : ∀ i, i < k → ¬ e (ix2 t i) = 1#1
    · rw [if_pos ⟨h1, h2⟩, h1, decide_eq_true (hs.2 h2)]
      rfl
    · rw [if_neg (fun h => h2 h.2), h1, decide_eq_false (fun h => h2 (hs.1 h))]
      rfl
  · rw [if_neg (fun h => h1 h.1)]
    have h0 : e (ix2 t k) = 0#1 := by
      revert h1
      generalize e (ix2 t k) = b
      revert b
      decide
    rw [h0]
    generalize BitVec.ofBool _ = b
    revert b
    have h : ∀ b : BitVec 1, IntOp.andi 0#1 b = 0#1 := by decide
    intro b
    rw [h]
    rfl

/-- The entry kept in a row is the first of the row's largest. -/
theorem firsts_largest_apply (s : FVec Ideal S16384x256 .f32) (t : Fin 16384) (k : Fin 256) :
    firsts (largest s) (ix2 t k) = if Spec.First (fun k => s (ix2 t k)) k then (1 : EReal) else 0 := by
  rw [firsts_apply]
  refine if_congr ?_ rfl rfl
  simp only [largest_apply, Spec.First]

/-- A query's value, from the entries kept: 256 less their weights over their number. -/
theorem values_apply (f : FVec Ideal S16384x256 .f32) (i k : Fin 256) :
    values f (ix2 i k) = (Ideal.ofBits .f32 0x43800000#32 -
      Ideal.div (∑ t : Fin 16384, f (ix2 t k) * Spec.weight t)
        ((∑ t : Fin 16384, f (ix2 t k)) + Ideal.ofBits .f32 0x3A83126F#32) : EReal) := by
  pointwise [values]
  simp only [number_weight]

/-- The kernel's first payload: every row holds the values of the queries. -/
theorem pay2_apply (x : Vec Ideal S1x16384x256 .f32) (y : Vec Ideal S1x256x256 .f32) (i k : Fin 256) :
    k0_pay2 x y (ix2 i k) = Spec.value (Spec.score (fun t d => x (ix3 0 t d)) (fun k d => y (ix3 0 k d))) k := by
  rw [pay2_eq, values_apply, Spec.value]
  simp only [firsts_largest_apply, scores_apply, ite_mul, one_mul, zero_mul]

/-! ## The order -/

/-- A sum of words of which one alone is not zero. -/
theorem fold_addi_single {n : ℕ} (a : Fin n) (f : Fin n → BitVec 32) (hf : ∀ i, i ≠ a → f i = 0#32) :
    Finset.univ.fold IntOp.addi (0#32) f = f a := by
  have h : ∀ S : Finset (Fin n), S.fold IntOp.addi (0#32) f = if a ∈ S then f a else 0#32 := by
    intro S
    induction S using Finset.induction_on with
    | empty => rfl
    | insert b S hb ih =>
      rw [Finset.fold_insert hb, ih]
      show f b + _ = _
      by_cases hab : b = a
      · subst hab
        rw [if_neg hb, if_pos (Finset.mem_insert_self _ _), BitVec.add_zero]
      · rw [hf b hab, BitVec.zero_add]
        simp [Finset.mem_insert, Ne.symm hab]
  rw [h, if_pos (Finset.mem_univ a)]

/-- The kernel's second payload: place `p` of the result holds the query whose value stands at place `p`. -/
theorem pay1_apply (v : FVec Ideal S256x256 .f32) (o : Fin 256 → EReal) (hv : ∀ i k : Fin 256, v (ix2 i k) = o k)
    (p : Fin 256) :
    k0_pay1 v (iota .tc S256x256 32 [0] iota_S256x256_d0_w32) (iota .tc S256x256 32 [1] iota_S256x256_d1_w32) k0_pay3
      (ix3 0 0 p) = BitVec.ofNat 32 (sortedFrom (fun a b => decide (o a < o b)) p : Fin 256) := by
  pointwise [k0_pay1, k0_pay3]
  have hd : ∀ i : Fin 256, (∑ j : Fin 256, o j * FloatOps.sitofp (F := Ideal) FTy.f32
      (BitVec.setWidth 32 (IntOp.cmpi CmpIPredicate.eq (BitVec.ofNat 32 ↑i) (BitVec.ofNat 32 ↑j))) : EReal) = o i := by
    intro i
    simp only [number_bit]
    rw [Finset.sum_eq_single i]
    · rw [if_pos ((eq_ofNat (by omega) (by omega)).2 rfl), mul_one]
    · intro j _ hj
      rw [if_neg (fun h => hj (Fin.ext ((eq_ofNat (by omega) (by omega)).1 h).symm)), mul_zero]
    · intro h
      exact absurd (Finset.mem_univ i) h
  simp only [hv, hd]
  simp only [IndicatorCount.fold_addi_setWidth_eq_card]
  have hr : ∀ (i : Fin 256) (q : Fin 256 → BitVec 1), (∀ j, q j = 1#1 ↔ Order.Before o j i) →
      (Finset.univ.filter fun j => q j = 1#1).card = Order.rank o i := by
    intro i q hq
    rw [Order.rank]
    congr 1
    exact Finset.filter_congr fun j _ => hq j
  rw [fold_addi_single (sortedFrom (fun a b => decide (o a < o b)) p)]
  · rw [hr (sortedFrom (fun a b => decide (o a < o b)) p) _ ?_, Order.rank_sortedFrom o _ (fun _ _ => rfl),
      (eq_ofNat (by omega) (by omega)).2 rfl]
    · rfl
    · intro j
      rw [WordCmp.cmpi_slt_ofNat (by omega) (by omega), WordCmp.andi_ofBool, WordCmp.ori_ofBool,
        WordCmp.ofBool_eq_one_iff]
      simp only [Bool.or_eq_true, Bool.and_eq_true, decide_eq_true_eq, Order.Before, Fin.lt_def]
  · intro i hi
    rw [hr i _ ?_]
    · have hne : ¬ IntOp.cmpi CmpIPredicate.eq (BitVec.ofNat 32 (Order.rank o i)) (BitVec.ofNat 32 ↑p) = 1#1 := by
        rw [eq_ofNat ((Order.rank_lt o i).trans (by norm_num)) (by omega)]
        exact fun h => hi ((Order.rank_eq_iff o _ (fun _ _ => rfl) i p).1 h)
      exact if_neg hne
    · intro j
      rw [WordCmp.cmpi_slt_ofNat (by omega) (by omega), WordCmp.andi_ofBool, WordCmp.ori_ofBool,
        WordCmp.ofBool_eq_one_iff]
      simp only [Bool.or_eq_true, Bool.and_eq_true, decide_eq_true_eq, Order.Before, Fin.lt_def]

end Cert.KernelIdeal.Value

end
-- ==== Proof.KernelRun.lean ====
/-
  What the kernel leaves: after the run its output array holds, batch by batch, the queries in the order of their
  values, and the result is that array with its middle axis dropped.
-/
module

public import proofs.«01_k».proof.Proof.KernelBlock

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The order of batch `b`, as words. -/
def ordered (X : FVec Ideal S8x16384x256 .f32) (Y : FVec Ideal S8x256x256 .f32) (b : Fin 8) (p : Fin 256) : BitVec 32 :=
  BitVec.ofNat 32 (Spec.order (fun t d => X (ix3 b t d)) (fun k d => Y (ix3 b k d)) p : Fin 256)

/-- The windows' block indices: the batch, then zeros. -/
theorem idx : ∀ t : Fin cfg0.N, win0_0.index t = ![t.val, 0, 0] ∧ win0_1.index t = ![t.val, 0, 0]
    ∧ win0_2.index t = ![t.val, 0, 0] :=
  (by decide +kernel : ∀ t : Fin grid0.N, _)

/-- The order of a block, as words, from two blocks that hold batch `b` of the arguments. -/
theorem block_apply (x : Vec Ideal S1x16384x256 .f32) (y : Vec Ideal S1x256x256 .f32)
    (X : FVec Ideal S8x16384x256 .f32) (Y : FVec Ideal S8x256x256 .f32) (b : Fin 8)
    (hx : ∀ (s : Fin 16384) (d : Fin 256), x (ix3 0 s d) = X (ix3 b s d))
    (hy : ∀ (s : Fin 256) (d : Fin 256), y (ix3 0 s d) = Y (ix3 b s d)) (p : Fin 256) :
    k0_pay1 (k0_pay2 x y) (iota .tc S256x256 32 [0] iota_S256x256_d0_w32) (iota .tc S256x256 32 [1] iota_S256x256_d1_w32)
      k0_pay3 (ix3 0 0 p) = ordered X Y b p := by
  have e1 : (fun (t : Fin 16384) (d : Fin 256) => (x (ix3 0 t d) : EReal)) = fun t d => X (ix3 b t d) :=
    funext fun t => funext fun d => hx t d
  have e2 : (fun (t : Fin 256) (d : Fin 256) => (y (ix3 0 t d) : EReal)) = fun t d => Y (ix3 b t d) :=
    funext fun t => funext fun d => hy t d
  rw [pay1_apply _ _ (fun i k => pay2_apply x y i k) p]
  unfold ordered Spec.order
  rw [← e1, ← e2]

/-- What the body stores at a point is the order of the batch the point works on. -/
theorem point (c : Dev nD) (t : Fin cfg0.N) (y : S1x1x256.Idx) :
    k0_pay1 (k0_pay2 (iblk m c 0 t) (iblk m c 1 t)) (iota .tc S256x256 32 [0] iota_S256x256_d0_w32)
      (iota .tc S256x256 32 [1] iota_S256x256_d1_w32) k0_pay3 y
    = ordered (m ((c : Thread nD τ).loc main_arg1)) (m ((c : Thread nD τ).loc main_arg0))
        ((((cfg0.win 2).blk t).view.emb y) 0) ((((cfg0.win 2).blk t).view.emb y) 2) := by
  have hy : y = ix3 0 0 (y 2) := by
    blk_ext
  have h0 : ∀ (s : Fin 16384) (d : Fin 256), iblk m c 0 t (ix3 0 s d)
      = m ((c : Thread nD τ).loc main_arg1) (ix3 ((((cfg0.win 2).blk t).view.emb y) 0) s d) := by
    intro s d
    blk_ext [iblk, V, idx t]
  have h1 : ∀ (k : Fin 256) (d : Fin 256), iblk m c 1 t (ix3 0 k d)
      = m ((c : Thread nD τ).loc main_arg0) (ix3 ((((cfg0.win 2).blk t).view.emb y) 0) k d) := by
    intro s d
    blk_ext [iblk, V, idx t]
  have h2 : (((((cfg0.win 2).blk t).view.emb y) 2 : Fin 256) : ℕ) = y 2 := by
    blk_simp [idx t]
  have h3 : ((((cfg0.win 2).blk t).view.emb y) 2 : Fin 256) = y 2 := Fin.ext h2
  have hb := block_apply (iblk m c 0 t) (iblk m c 1 t) (m ((c : Thread nD τ).loc main_arg1))
    (m ((c : Thread nD τ).loc main_arg0)) ((((cfg0.win 2).blk t).view.emb y) 0) h0 h1 (y 2)
  exact (congrArg (k0_pay1 (k0_pay2 (iblk m c 0 t) (iblk m c 1 t)) (iota .tc S256x256 32 [0] iota_S256x256_d0_w32)
    (iota .tc S256x256 32 [1] iota_S256x256_d1_w32) k0_pay3) hy).trans (hb.trans (congrArg (ordered _ _ _) h3.symm))

/-- The output array after the run. -/
theorem final (c : Dev nD) : (dats m 0 c).arrAt 2 (cfgs 0).N
    = fun j : S8x1x256.Idx => ordered (m ((c : Thread nD τ).loc main_arg1)) (m ((c : Thread nD τ).loc main_arg0)) (j 0) (j 2) := by
  refine (dats m 0 c).arrAt_eq_of_covers 2 _ (by decide +kernel) fun t _ y => ?_
  blk_simp
  rw [after0_2]
  frame_out
  exact point m c t y

/-- Dropping the middle axis of one of an array of words. -/
theorem drop_apply (f : Fin 8 → Fin 256 → BitVec 32) (j : S8x256.Idx) :
    shapeCast S8x256 (fun j : S8x1x256.Idx => f (j 0) (j 2)) shapeCasts_S8x1x256_S8x256 j = f (j 0) (j 1) := by
  idx_vars j
  pointwise

/-- The result after the run: the output array with its middle axis dropped. -/
theorem result (c : Dev nD) : Pipeline.afterTail₀ cfgs (dats m) 0 (V0 m) [hostOps1] c main_v1
    = fun j : S8x256.Idx => ordered (m ((c : Thread nD τ).loc main_arg1)) (m ((c : Thread nD τ).loc main_arg0)) (j 0) (j 1) := by
  have ha : Pipeline.withArrays (cfgs 0).spec c (V0 m c) (fun w => (dats m 0 c).arrAt w (cfgs 0).N)
      (Proc.devRef .tc main_v0) = (dats m 0 c).arrAt 2 (cfgs 0).N :=
    Pipeline.withArrays_arr (cfgs 0).spec launch0.win.arr_inj c (V0 m c) (fun w => (dats m 0 c).arrAt w (cfgs 0).N) 2
  rw [final] at ha
  unfold Pipeline.afterTail₀
  simp only [hostOps1, List.flatten_cons, List.flatten_nil, List.append_nil]
  after_results
  rw [ha]
  funext j
  exact drop_apply _ j

end Cert.KernelIdeal.Value

end
-- ==== Proof.RefArgmax.lean ====
/-
  The reference's choice: the fold that finds a row's largest entry, ties to the smaller position, leaves the first
  position at which the row is largest, whatever the order in which it meets the row's entries.
-/
module

public import proofs.«01_k».proof.Proof.Spec
public import proofs.«01_k».proof.Proof.Gen.ReferenceIdeal
public import Idealize.ShloMosaic.Lib.Pointwise
public import Idealize.ShloMosaic.Lib.Pointwise.Index
public import Idealize.ShloMosaic.PureOps.Ideal.Laws
public import Idealize.ShloMosaic.PureOps.Reduce

@[expose] public section

set_option maxRecDepth 16384

noncomputable section

open Idealize.ShloMosaic Idealize.ShloMosaic.TcCoe Idealize.SL.Sem

namespace Cert.ReferenceIdeal.Value

open Cert.ReferenceIdeal

/-- `a` comes before `b` or ties with it: a larger entry, or an equal one at a position no larger. -/
def Beats (a b : EReal × BitVec 32) : Prop := b.1 < a.1 ∨ a.1 = b.1 ∧ a.2.toInt ≤ b.2.toInt

/-- Every pair ties with itself. -/
theorem Beats.refl (a : EReal × BitVec 32) : Beats a a := Or.inr ⟨rfl, le_refl _⟩

/-- Beating or tying is transitive. -/
theorem Beats.trans {a b c : EReal × BitVec 32} (h : Beats a b) (h' : Beats b c) : Beats a c := by
  rcases h with h | ⟨h, hn⟩ <;> rcases h' with h' | ⟨h', hn'⟩
  · exact Or.inl (h'.trans h)
  · exact Or.inl (h' ▸ h)
  · exact Or.inl (h ▸ h')
  · exact Or.inr ⟨h.trans h', hn.trans hn'⟩

/-- One step of the fold leaves one of its two pairs, and that one beats or ties with both. -/
theorem beats_reducer (a b : EReal × BitVec 32) :
    (reducer_argmax_f32_i32 (F := Ideal) a b = a ∨ reducer_argmax_f32_i32 (F := Ideal) a b = b) ∧
      Beats (reducer_argmax_f32_i32 (F := Ideal) a b) a ∧ Beats (reducer_argmax_f32_i32 (F := Ideal) a b) b := by
  obtain ⟨a, i⟩ := a
  obtain ⟨b, j⟩ := b
  have e : reducer_argmax_f32_i32 (F := Ideal) (a, i) (b, j)
      = (if b < a then a else b, if b < a ∨ a = b ∧ i.toInt < j.toInt then i else j) := by
    unfold reducer_argmax_f32_i32
    have one_or : ∀ w : BitVec 1, 1#1 ||| w = 1#1 := by decide
    by_cases h : b < a
    · simp [Ideal.cmpf_def, Ideal.cmp, IntOp.ori, IntOp.andi, IntOp.cmpi, Scalar.select, h, one_or]
    · by_cases h' : a = b
      · by_cases hn : i.toInt < j.toInt <;>
          simp [Ideal.cmpf_def, Ideal.cmp, IntOp.ori, IntOp.andi, IntOp.cmpi, Scalar.select, BitVec.slt, h', hn]
      · simp [Ideal.cmpf_def, Ideal.cmp, IntOp.ori, IntOp.andi, IntOp.cmpi, Scalar.select, h, h']
  rw [e]
  by_cases h : b < a
  · simp [h, Beats]
  · by_cases h' : a = b
    · subst h'
      by_cases hn : i.toInt < j.toInt
      · simp [Beats, hn, hn.le]
      · simp [Beats, hn, not_lt.1 hn]
    · have : a < b := lt_of_le_of_ne (not_lt.1 h) h'
      simp [Beats, h, h', this]

/-- The fold over a list: it leaves the start or a member, and what it leaves beats the start and every member. -/
theorem beats_foldl (L : List (EReal × BitVec 32)) : ∀ z : EReal × BitVec 32,
    (L.foldl (reducer_argmax_f32_i32 (F := Ideal)) z = z ∨ L.foldl (reducer_argmax_f32_i32 (F := Ideal)) z ∈ L) ∧
      Beats (L.foldl (reducer_argmax_f32_i32 (F := Ideal)) z) z ∧
      ∀ p ∈ L, Beats (L.foldl (reducer_argmax_f32_i32 (F := Ideal)) z) p := by
  induction L with
  | nil => intro z; exact ⟨Or.inl rfl, Beats.refl z, fun p hp => by cases hp⟩
  | cons a L ih =>
    intro z
    rw [List.foldl_cons]
    obtain ⟨h1, h2, h3⟩ := ih (reducer_argmax_f32_i32 (F := Ideal) z a)
    obtain ⟨g1, g2, g3⟩ := beats_reducer z a
    refine ⟨?_, h2.trans g2, ?_⟩
    · rcases h1 with h1 | h1
      · rcases g1 with g1 | g1
        · exact Or.inl (h1.trans g1)
        · exact Or.inr (by rw [h1, g1]; exact List.mem_cons_self)
      · exact Or.inr (List.mem_cons_of_mem _ h1)
    · intro p hp
      rcases List.mem_cons.1 hp with rfl | hp
      · exact h2.trans g3
      · exact h3 p hp

/-- A fold over a list whose members are a row's entries with their positions, from the least value and position 0,
    leaves the first position at which the row is largest. -/
theorem foldl_first (f : Fin 256 → EReal) (L : List (EReal × BitVec 32))
    (hL : ∀ p, p ∈ L ↔ ∃ k : Fin 256, p = (f k, BitVec.ofNat 32 k)) :
    ∃ k : Fin 256, Spec.First f k ∧
      (L.foldl (reducer_argmax_f32_i32 (F := Ideal)) (⊥, 0#32)).2 = BitVec.ofNat 32 k := by
  have toInt : ∀ k : Fin 256, (BitVec.ofNat 32 k).toInt = (k : ℕ) := fun k => by
    have := k.isLt
    rw [BitVec.toInt_eq_toNat_of_lt] <;> simp [BitVec.toNat_ofNat] <;> omega
  obtain ⟨h1, h2, h3⟩ := beats_foldl L (⊥, 0#32)
  generalize L.foldl (reducer_argmax_f32_i32 (F := Ideal)) (⊥, 0#32) = r at h1 h2 h3
  have hb : ∀ k : Fin 256, Beats r (f k, BitVec.ofNat 32 k) := fun k => h3 _ ((hL _).2 ⟨k, rfl⟩)
  -- what is left is some position's entry with that position
  have hr : ∃ k : Fin 256, r = (f k, BitVec.ofNat 32 k) := by
    rcases h1 with rfl | h1
    · refine ⟨0, ?_⟩
      rcases hb 0 with h | ⟨h, -⟩
      · exact absurd h not_lt_bot
      · exact Prod.ext h rfl
    · exact (hL r).1 h1
  obtain ⟨k, rfl⟩ := hr
  refine ⟨k, ⟨fun i => ?_, fun i hi hall => ?_⟩, rfl⟩
  · rcases hb i with h | ⟨h, -⟩
    · exact le_of_lt h
    · exact h.ge
  · rcases hb i with h | ⟨h, hn⟩
    · exact absurd (hall k) (not_le.2 h)
    · have hn' : ((k : ℕ) : ℤ) ≤ ((i : ℕ) : ℤ) := by simpa only [toInt] using hn
      have : (i : ℕ) < (k : ℕ) := hi
      omega

/-- The positions of an array of entries with positions. -/
def position {s : Shape} (r : s.Idx → EReal × BitVec 32) : IVec s 32 := fun j => (r j).2

/-- The position at an index, from the pair there. -/
theorem position_eq {s : Shape} (r : s.Idx → EReal × BitVec 32) (j : s.Idx) (p : EReal × BitVec 32) (h : r j = p) :
    position r j = p.2 := congrArg Prod.snd h

/-- Each row's largest entry and its position. -/
def largest (v : FVec Ideal S8x16384x256 .f32) : S8x16384.Idx → EReal × BitVec 32 :=
  Host.argReduce (reducer_argmax_f32_i32 (F := Ideal)) v (iotaInDim S8x16384x256 32 2)
    (constant (F := Ideal) S_ .f32 0xFF800000#32) (constantI S_ 32 0#32)
    Gen.reducesTo_S8x16384x256_S8x16384_d2 Gen.h_S_

/-- Each row's choice. -/
def choice (v : FVec Ideal S8x16384x256 .f32) : IVec S8x16384 32 := position (largest v)

/-- The entries a fold over two arrays meets at `j`: those at the positions that drop to `j`. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- The fold of a reduction of two arrays, over the entries it meets, from a start given by name. -/
theorem argReduce_foldl {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t)
    (hu : 0 < u.numel) (j : t.Idx) (z : EReal) (n : BitVec 32) (hz : ∀ i, ix i = z) (hn : ∀ i, iy i = n) :
    Host.argReduce (F := Ideal) (φ := .f32) f x y ix iy h hu j = (Host.argReduceFiber x y h j).foldl f (z, n) := by
  have e := (congrFun (Ideal.argReduce_eq_reduce2 (φ := .f32) f x y ix iy h hu) j).trans
    (Host.reduce2_eq_foldl_fiber f x y ix iy h hu j)
  rwa [hz, hn] at e

/-- A row's largest entry and its position, as the fold over the row. -/
theorem largest_eq (v : FVec Ideal S8x16384x256 .f32) (j : S8x16384.Idx) (z : EReal) (n : BitVec 32)
    (hz : ∀ i : S_.Idx, (constant (F := Ideal) S_ .f32 0xFF800000#32) i = z) (hn : ∀ i, (constantI S_ 32 0#32) i = n) :
    largest v j
      = (Host.argReduceFiber v (iotaInDim S8x16384x256 32 2) Gen.reducesTo_S8x16384x256_S8x16384_d2 j).foldl
          (reducer_argmax_f32_i32 (F := Ideal)) (z, n) := by
  unfold largest
  exact argReduce_foldl (reducer_argmax_f32_i32 (F := Ideal)) v (iotaInDim S8x16384x256 32 2)
    (constant (F := Ideal) S_ .f32 0xFF800000#32) (constantI S_ 32 0#32) Gen.reducesTo_S8x16384x256_S8x16384_d2 Gen.h_S_ j z n hz hn

/-- The index of an entry, without its last coordinate, is that of its row. -/
theorem drop_eq (b : Fin 8) (t : Fin 16384) (k : Fin 256) :
    Gen.reducesTo_S8x16384x256_S8x16384_d2.drop (ix3 b t k) = ix2 b t := by
  funext a
  match a with
  | ⟨0, _⟩ =>
    exact Fin.ext (Shape.ReducesTo.drop_apply_val_of_eq Gen.reducesTo_S8x16384x256_S8x16384_d2 (ix3 b t k) 0 0)
  | ⟨1, _⟩ =>
    exact Fin.ext (Shape.ReducesTo.drop_apply_val_of_eq Gen.reducesTo_S8x16384x256_S8x16384_d2 (ix3 b t k) 1 1)

/-- The word of minus infinity is the least extended real. -/
theorem ofBits_least : Ideal.ofBits .f32 0xFF800000#32 = ⊥ := by
  simp [Ideal.ofBits, Ideal.ieee]

/-- A row's entries with their positions. -/
theorem mem_row (v : FVec Ideal S8x16384x256 .f32) (b : Fin 8) (t : Fin 16384) (p : EReal × BitVec 32) :
    p ∈ Host.argReduceFiber v (iotaInDim S8x16384x256 32 2) Gen.reducesTo_S8x16384x256_S8x16384_d2 (ix2 b t)
      ↔ ∃ k : Fin 256, p = (v (ix3 b t k), BitVec.ofNat 32 k) := by
  rw [mem_fiber]
  constructor
  · rintro ⟨i, hi, rfl⟩
    obtain ⟨b', t', k', rfl⟩ : ∃ (b' : Fin 8) (t' : Fin 16384) (k' : Fin 256), i = ix3 b' t' k' :=
      ⟨i 0, i 1, i 2, eq_ix3 i⟩
    rw [drop_eq] at hi
    obtain rfl : b' = b := congrFun hi 0
    obtain rfl : t' = t := congrFun hi 1
    exact ⟨k', rfl⟩
  · rintro ⟨k, rfl⟩
    exact ⟨ix3 b t k, drop_eq b t k, rfl⟩

/-- Each row's choice is the first position at which the row is largest. -/
theorem choice_apply (v : FVec Ideal S8x16384x256 .f32) (b : Fin 8) (t : Fin 16384) :
    ∃ k : Fin 256, Spec.First (fun k => v (ix3 b t k)) k ∧ choice v (ix2 b t) = BitVec.ofNat 32 k := by
  obtain ⟨k, hk, e⟩ := foldl_first (fun k => v (ix3 b t k)) _ (mem_row v b t)
  have h := largest_eq v (ix2 b t) ⊥ 0#32 (fun _ => ofBits_least) (fun _ => rfl)
  generalize List.foldl (reducer_argmax_f32_i32 (F := Ideal)) (⊥, 0#32)
    (Host.argReduceFiber v (iotaInDim S8x16384x256 32 2) Gen.reducesTo_S8x16384x256_S8x16384_d2 (ix2 b t)) = r at h e
  exact ⟨k, hk, (position_eq (largest v) (ix2 b t) r h).trans e⟩

end Cert.ReferenceIdeal.Value

end
-- ==== Proof.RefValue.lean ====
/-
  The reference's value of a query: the two accumulations over the rows that choose it, and what is made of them.
-/
module

public import proofs.«01_k».proof.Proof.RefArgmax
public import Idealize.ShloMosaic.Lib.Routing.OpsPair
public import Idealize.ShloMosaic.Lib.WordCmp

@[expose] public section

set_option maxRecDepth 16384

noncomputable section

open Idealize.ShloMosaic Idealize.ShloMosaic.TcCoe Idealize.SL.Sem
open scoped Classical

namespace Cert.ReferenceIdeal.Value

open Cert.ReferenceIdeal

/-! ## The scores -/

/-- Every row's score at every query. -/
def scores (X : FVec Ideal S8x16384x256 .f32) (Y : FVec Ideal S8x256x256 .f32) : FVec Ideal S8x16384x256 .f32 :=
  Host.dotGeneral dot_S8x16384x256_S8x256x256_S8x16384x256_2_2_1_1_0_0 none X Y

/-- A score is the product of a row of the text with a query. -/
theorem scores_apply (X : FVec Ideal S8x16384x256 .f32) (Y : FVec Ideal S8x256x256 .f32) (b : Fin 8) (t : Fin 16384)
    (k : Fin 256) :
    scores X Y (ix3 b t k) = Spec.score (fun t d => X (ix3 b t d)) (fun k d => Y (ix3 b k d)) t k := by
  unfold Spec.score
  pointwise [scores]

/-! ## The bins -/

/-- The bin of each row: its choice, moved by 256 for every batch before its own. -/
def place (c : IVec S8x16384 32) : IVec S8x16384 32 :=
  addi c (broadcastInDim S8x16384 ![0, 1] Gen.bcast_S8x1_S8x16384_0_1
    (muli (broadcastInDim S8x1 ![0] Gen.bcast_S8_S8x1_0 (iotaInDim S8 32 0))
      (broadcastInDim S8x1 ![] Gen.bcast_S_S8x1 (constantI S_ 32 256#32))))

/-- The bin of row `t` of batch `b`, which chose query `k`, is `b * 256 + k`. -/
theorem place_apply (c : IVec S8x16384 32) (b : Fin 8) (t : Fin 16384) (k : Fin 256)
    (h : c (ix2 b t) = BitVec.ofNat 32 k) : (place c (ix2 b t)).toInt = ((b * 256 + k : ℕ) : ℤ) := by
  have hb := b.isLt
  have hk := k.isLt
  have e : place c (ix2 b t) = c (ix2 b t) + BitVec.ofNat 32 b * 256#32 := rfl
  have e' : BitVec.ofNat 32 k + BitVec.ofNat 32 b * 256#32 = BitVec.ofNat 32 (b * 256 + k) := by
    apply BitVec.eq_of_toNat_eq
    simp only [BitVec.toNat_add, BitVec.toNat_mul, BitVec.toNat_ofNat]
    omega
  rw [e, h, e', WordCmp.toInt_ofNat_of_lt (by omega)]

/-- The weight of each row. -/
def weights : FVec Ideal S8x16384 .f32 :=
  broadcastInDim S8x16384 ![0, 1] Gen.bcast_S1x16384_S8x16384_0_1
    (broadcastInDim S1x16384 ![1] Gen.bcast_S16384_S1x16384_1
      (addf (broadcastInDim S16384 ![] Gen.bcast_S_S16384 (constant S_ .f32 0x46800000#32))
        (mulf (broadcastInDim S16384 ![] Gen.bcast_S_S16384 (constant S_ .f32 0xBF800000#32))
          (sitofp .f32 (iotaInDim S16384 32 0)))))

/-- Row `t`'s weight is `16384 - t`. -/
theorem weights_apply (b : Fin 8) (t : Fin 16384) : weights (ix2 b t) = Spec.weight t := by
  have ht := t.isLt
  have e : weights (ix2 b t) = Ideal.ofBits .f32 0x46800000#32
      + Ideal.ofBits .f32 0xBF800000#32 * (((BitVec.ofNat 32 (t : ℕ)).toInt : ℝ) : EReal) := rfl
  have h1 : Ideal.ofBits .f32 0x46800000#32 = ((16384 : ℝ) : EReal) := by
    simp [Ideal.ofBits, Ideal.ieee, -EReal.coe_mul, -EReal.coe_neg]
    norm_num
  have h2 : Ideal.ofBits .f32 0xBF800000#32 = ((-1 : ℝ) : EReal) := by
    simp [Ideal.ofBits, Ideal.ieee, -EReal.coe_mul, -EReal.coe_neg]
    norm_num
  rw [e, h1, h2, WordCmp.toInt_ofNat_of_lt (by omega), Spec.weight, ← EReal.coe_mul, ← EReal.coe_add]
  congr 1
  push_cast
  ring

/-! ## The accumulation -/

/-- The empty bins with `u` added in, each entry at the bin `p` names. -/
def bins (p : IVec S8x16384 32) (u : FVec Ideal S131072 .f32) : FVec Ideal S2048 .f32 :=
  Host.scatterAdd scatter_S2048_S131072x1_S131072_n_0_0_1
    (broadcastInDim S2048 ![] Gen.bcast_S_S2048 (constant S_ .f32 0x00000000#32))
    (broadcastInDim S131072x1 ![0] Gen.bcast_S131072_S131072x1_0
      (shapeCast S131072 p Gen.shapeCasts_S8x16384_S131072)) u

/-- The one word read for entry `j` is the entry's own. -/
theorem start_eq (q : IVec S131072 32) (j : S131072.Idx) :
    scatter_S2048_S131072x1_S131072_n_0_0_1.start j
      (broadcastInDim S131072x1 ![0] Gen.bcast_S131072_S131072x1_0 q) 0 = (q j).toInt := by
  unfold ScatterDims.start
  rw [dif_pos (show (0 : Fin S2048.rank) ∈ scatter_S2048_S131072x1_S131072_n_0_0_1.scatterDimsToOperandDims from
    List.mem_singleton.2 rfl)]
  refine congrArg BitVec.toInt (congrArg q ?_)
  funext a
  match a with
  | ⟨0, _⟩ => rfl

/-- An entry is a single number: it has no position of its own inside the place it lands at. -/
theorem window_eq (j : S131072.Idx) : scatter_S2048_S131072x1_S131072_n_0_0_1.window j 0 = 0 := by
  unfold ScatterDims.window
  rw [dif_neg (by decide)]

/-- A bin holds the sum of the entries whose rows chose it. -/
theorem bins_apply (c : IVec S8x16384 32) (u : FVec Ideal S8x16384 .f32) (s : Fin 8 → Fin 16384 → Fin 256 → EReal)
    (hc : ∀ b t, ∃ k : Fin 256, Spec.First (s b t) k ∧ c (ix2 b t) = BitVec.ofNat 32 k)
    (b : Fin 8) (k : Fin 256) :
    bins (place c) (shapeCast S131072 u Gen.shapeCasts_S8x16384_S131072)
        (Shape.reshapeEquiv Gen.shapeCasts_S2048_S8x256 (ix2 b k))
      = ∑ t, if Spec.First (s b t) k then u (ix2 b t) else 0 := by
  have hi : ((Shape.reshapeEquiv Gen.shapeCasts_S2048_S8x256 (ix2 b k)) 0 : Fin 2048).val = b * 256 + k := by
    have h := Shape.rowMajor_reshapeEquiv Gen.shapeCasts_S2048_S8x256 (ix2 b k)
    rw [Shape.rowMajor_val_one, Shape.rowMajor_val_two] at h
    exact h
  generalize Shape.reshapeEquiv Gen.shapeCasts_S2048_S8x256 (ix2 b k) = i at hi
  have hz : (broadcastInDim S2048 ![] Gen.bcast_S_S2048 (constant (F := Ideal) S_ .f32 0x00000000#32)) i = (0 : EReal) :=
    Ideal.ofBits_zero_f32
  have hland : ∀ j : S131072.Idx, scatter_S2048_S131072x1_S131072_n_0_0_1.resultIdx? j
      (broadcastInDim S131072x1 ![0] Gen.bcast_S131072_S131072x1_0
        (shapeCast S131072 (place c) Gen.shapeCasts_S8x16384_S131072)) = some i
      ↔ (place c (Shape.reshapeEquiv Gen.shapeCasts_S8x16384_S131072 j)).toInt = ((b * 256 + k : ℕ) : ℤ) := by
    intro j
    rw [Routing.resultIdx?_eq_some]
    constructor
    · intro h
      have := h 0
      rw [start_eq, window_eq, hi] at this
      unfold shapeCast at this
      simpa using this
    · intro h a
      match a with
      | ⟨0, _⟩ =>
        show scatter_S2048_S131072x1_S131072_n_0_0_1.start j _ 0
          + (scatter_S2048_S131072x1_S131072_n_0_0_1.window j 0 : ℤ) = ((i 0 : Fin 2048).val : ℤ)
        rw [start_eq, window_eq, hi]
        unfold shapeCast
        simpa using h
  unfold bins Host.scatterAdd
  rw [Ideal.hostScatterAdd_def]
  unfold Ideal.hostScatterAdd
  rw [hz, zero_add, Finset.sum_filter]
  simp only [hland]
  unfold shapeCast
  rw [Equiv.sum_comp (Shape.reshapeEquiv Gen.shapeCasts_S8x16384_S131072)
    (fun y : S8x16384.Idx => if (place c y).toInt = ((b * 256 + k : ℕ) : ℤ) then u y else 0), sum_idx2]
  have hrow : ∀ (b' : Fin 8) (t : Fin 16384), (if (place c (ix2 b' t)).toInt = ((b * 256 + k : ℕ) : ℤ) then u (ix2 b' t) else 0)
      = if b' = b then (if Spec.First (s b t) k then u (ix2 b t) else 0) else (0 : EReal) := by
    intro b' t
    obtain ⟨k', hk', e⟩ := hc b' t
    rw [place_apply c b' t k' e]
    have h1 := k.isLt
    have h2 := k'.isLt
    by_cases hb : b' = b
    · subst hb
      rw [if_pos rfl]
      refine if_congr ?_ rfl rfl
      constructor
      · intro h
        obtain rfl : k' = k := Fin.ext (by omega)
        exact hk'
      · intro h
        rw [hk'.unique h]
    · rw [if_neg hb, if_neg]
      intro h
      exact hb (Fin.ext (by omega))
  simp only [hrow]
  rw [Finset.sum_comm]
  simp only [Finset.sum_ite_eq', Finset.mem_univ, if_true]

/-! ## The values -/

/-- The weights of each bin over their number. -/
def ratio (w n : FVec Ideal S2048 .f32) : FVec Ideal S2048 .f32 :=
  Host.divf w (addf n (broadcastInDim S2048 ![] Gen.bcast_S_S2048 (constant S_ .f32 0x3A83126F#32)))

/-- A ratio at a bin. -/
theorem ratio_apply (w n : FVec Ideal S2048 .f32) (i : S2048.Idx) :
    ratio w n i = Ideal.div (w i) (n i + Ideal.ofBits .f32 0x3A83126F#32) := rfl

/-- 256 less a bin's ratio. -/
def lessRatio (r : FVec Ideal S2048 .f32) : FVec Ideal S8x256 .f32 :=
  subf (broadcastInDim S8x256 ![] Gen.bcast_S_S8x256 (constant S_ .f32 0x43800000#32))
    (shapeCast S8x256 r Gen.shapeCasts_S2048_S8x256)

/-- 256 less a ratio, at a query. -/
theorem lessRatio_apply (r : FVec Ideal S2048 .f32) (j : S8x256.Idx) :
    lessRatio r j = Ideal.ofBits .f32 0x43800000#32 - r (Shape.reshapeEquiv Gen.shapeCasts_S2048_S8x256 j) := rfl

/-- Each query's value. -/
def values (c : IVec S8x16384 32) : FVec Ideal S8x256 .f32 :=
  lessRatio (ratio (bins (place c) (shapeCast S131072 weights Gen.shapeCasts_S8x16384_S131072))
    (bins (place c) (broadcastInDim S131072 ![] Gen.bcast_S_S131072 (constant S_ .f32 0x3F800000#32))))

/-- A query's value, when every row's choice is the first position at which the row is largest. -/
theorem values_apply (c : IVec S8x16384 32) (s : Fin 8 → Fin 16384 → Fin 256 → EReal)
    (hc : ∀ b t, ∃ k : Fin 256, Spec.First (s b t) k ∧ c (ix2 b t) = BitVec.ofNat 32 k)
    (b : Fin 8) (k : Fin 256) : values c (ix2 b k) = Spec.value (s b) k := by
  have ones : (broadcastInDim S131072 ![] Gen.bcast_S_S131072 (constant (F := Ideal) S_ .f32 0x3F800000#32))
      = shapeCast S131072 (fun _ => (1 : EReal)) Gen.shapeCasts_S8x16384_S131072 := by
    funext j
    exact Ideal.ofBits_one_f32
  unfold values
  rw [lessRatio_apply, ratio_apply, ones, bins_apply c weights s hc, bins_apply c (fun _ => (1 : EReal)) s hc, Spec.value]
  simp only [weights_apply]

/-! ## The order -/

/-- The sort's comparator puts the smaller value first. -/
theorem comparator_eq (l r : EReal × BitVec 32) :
    (comparator_f32_i32_d1 (F := Ideal) l r == 1#1) = decide (l.1 < r.1) := by
  have canon : ∀ x : EReal, Scalar.select (FloatOps.cmpf (F := Ideal) (φ := .f32) .une x x)
      (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := fun x => by
    have hz : FloatOps.ofBits (F := Ideal) .f32 0x00000000#32 = (0 : EReal) := Ideal.ofBits_zero_f32
    rw [hz, Ideal.cmpf_def, Ideal.cmpf_def]
    by_cases h : x = 0 <;> simp [Ideal.cmp, Scalar.select, h]
  have e : comparator_f32_i32_d1 (F := Ideal) l r = FloatOps.cmpfTotal (F := Ideal) (φ := .f32) .lt l.1 r.1 := by
    unfold comparator_f32_i32_d1
    dsimp only
    rw [canon, canon]
  rw [e, Ideal.cmpfTotal_def]
  by_cases h : l.1 < r.1 <;> simp [Ideal.cmp, CmpDirection.ordered, h]

/-- A sort that carries each position along leaves, at each place, the position sorted there. -/
theorem sort2_iota {s : Shape} {α : Type} (d : Fin s.rank) (cmp : α × BitVec 32 → α × BitVec 32 → BitVec 1)
    (x : s.Idx → α) (j : s.Idx) :
    (Host.sort2 s d.val cmp x (iotaInDim s 32 d)).2 j
      = BitVec.ofNat 32 (sortedFrom (fun k k' : Fin (s.size d) =>
          cmp (x (j.along d k), iotaInDim s 32 d (j.along d k))
            (x (j.along d k'), iotaInDim s 32 d (j.along d k')) == 1#1) (j d)).val := by
  unfold Host.sort2
  rw [dif_pos d.isLt]
  dsimp only [iotaInDim]
  unfold Shape.Idx.along
  rw [Function.update_self]

/-- A place of a batch moved along its axis. -/
theorem along_eq (b : Fin 8) (p a : Fin 256) : (ix2 b p : S8x256.Idx).along 1 a = ix2 b a := by
  funext d
  match d with
  | ⟨0, _⟩ => rfl
  | ⟨1, _⟩ => rfl

/-- What the sort carries along: at each place, the query there. -/
theorem sorted_apply (v : FVec Ideal S8x256 .f32) (b : Fin 8) (p : Fin 256) :
    (Host.sort2 S8x256 1 (comparator_f32_i32_d1 (F := Ideal)) v (iotaInDim S8x256 32 1)).2 (ix2 b p)
      = BitVec.ofNat 32 (sortedFrom (fun a a' : Fin 256 => decide (v (ix2 b a) < v (ix2 b a'))) p : Fin 256) := by
  refine (sort2_iota (s := S8x256) 1 (comparator_f32_i32_d1 (F := Ideal)) v (ix2 b p)).trans ?_
  have hcmp : (fun a a' : Fin 256 => comparator_f32_i32_d1 (F := Ideal)
      (v ((ix2 b p : S8x256.Idx).along 1 a), iotaInDim S8x256 32 1 ((ix2 b p : S8x256.Idx).along 1 a))
      (v ((ix2 b p : S8x256.Idx).along 1 a'), iotaInDim S8x256 32 1 ((ix2 b p : S8x256.Idx).along 1 a')) == 1#1)
      = fun a a' => decide (v (ix2 b a) < v (ix2 b a')) := by
    funext a a'
    rw [comparator_eq, along_eq, along_eq]
  exact congrArg (fun f => BitVec.ofNat 32 (sortedFrom f p : Fin 256)) hcmp

/-- The reference's result, from its own stages. -/
def result (X : FVec Ideal S8x16384x256 .f32) (Y : FVec Ideal S8x256x256 .f32) : IVec S8x256 32 :=
  (Host.sort2 S8x256 1 (comparator_f32_i32_d1 (F := Ideal)) (values (choice (scores X Y))) (iotaInDim S8x256 32 1)).2

/-- The reference's result: at each place, the query there. -/
theorem result_apply (X : FVec Ideal S8x16384x256 .f32) (Y : FVec Ideal S8x256x256 .f32) (b : Fin 8) (p : Fin 256) :
    result X Y (ix2 b p)
      = BitVec.ofNat 32 (Spec.order (fun t d => X (ix3 b t d)) (fun k d => Y (ix3 b k d)) p : Fin 256) := by
  have hc : ∀ (b : Fin 8) (t : Fin 16384), ∃ k : Fin 256,
      Spec.First (Spec.score (fun t d => X (ix3 b t d)) (fun k d => Y (ix3 b k d)) t) k
        ∧ choice (scores X Y) (ix2 b t) = BitVec.ofNat 32 k := fun b t => by
    obtain ⟨k, hk, e⟩ := choice_apply (scores X Y) b t
    refine ⟨k, ?_, e⟩
    simpa only [scores_apply] using hk
  unfold result
  rw [sorted_apply]
  simp only [values_apply _ (fun b => Spec.score (fun t d => X (ix3 b t d)) (fun k d => Y (ix3 b k d))) hc]
  rfl

end Cert.ReferenceIdeal.Value

end
-- ==== Proof.lean ====
/-
  The five claims: both programs and the reference run to their end, the ideal program is the printed one, and the
  kernel leaves the reference's result.
-/
module

public import proofs.«01_k».proof.Defs
public import proofs.«01_k».proof.Proof.Gen.Kernel.Frame
public import proofs.«01_k».proof.Proof.Gen.KernelIdeal.Frame
public import proofs.«01_k».proof.Proof.KernelRun
public import proofs.«01_k».proof.Proof.RefValue
public import Idealize.ShloMosaic.Lib.Tactic.CleanTypes

@[expose] public section

set_option maxRecDepth 16384

noncomputable section

open Idealize.ShloMosaic Idealize.ShloMosaic.TcCoe Idealize.SL.Sem

namespace Cert.Proof

/-- The reference's result is the kernel's array, when both are given the same arguments. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Value.result (m ((c : Thread Cert.KernelIdeal.nD Cert.KernelIdeal.τ).loc Cert.KernelIdeal.main_arg1))
        (m ((c : Thread Cert.KernelIdeal.nD Cert.KernelIdeal.τ).loc Cert.KernelIdeal.main_arg0))
      = Pipeline.afterTail₀ Cert.KernelIdeal.cfgs (Cert.KernelIdeal.Gen.dats m) 0 (Cert.KernelIdeal.Gen.V0 m)
          [Cert.KernelIdeal.Gen.hostOps1] c Cert.KernelIdeal.main_v1 := by
  refine Eq.trans ?_ (Cert.KernelIdeal.Value.result m c).symm
  funext j
  obtain ⟨b, p, rfl⟩ : ∃ (b : Fin 8) (p : Fin 256), j = ix2 b p := ⟨j 0, j 1, eq_ix2 j⟩
  exact Cert.ReferenceIdeal.Value.result_apply _ _ b p

/-- The reference runs to its end. -/
theorem frameReference : Cert.quiescent_ReferenceIdeal := by
  intro m g _
  hlo_run
  · exact fun _ => ⟨trivial, trivial⟩
  · exact sem_eq_zero_of_no_sems (sig := Cert.ReferenceIdeal.sig) (by decide) _

/-- The kernel leaves the reference's result. -/
theorem valueEqual : Cert.algebraic_KernelIdeal_ReferenceIdeal := by
  pair_intro
  · run_from Cert.KernelIdeal.Gen.run_main m g
  · hlo_run
    refine Eq.trans ?_ (result_eq m c)
    unfold Cert.ReferenceIdeal.Value.result Cert.ReferenceIdeal.Value.values Cert.ReferenceIdeal.Value.lessRatio
      Cert.ReferenceIdeal.Value.ratio Cert.ReferenceIdeal.Value.bins Cert.ReferenceIdeal.Value.place
      Cert.ReferenceIdeal.Value.weights Cert.ReferenceIdeal.Value.choice Cert.ReferenceIdeal.Value.position
      Cert.ReferenceIdeal.Value.largest Cert.ReferenceIdeal.Value.scores
    simp -implicitDefEqProofs only [StableHlo.TRef.toBuf, StableHlo.TRef.ofBuf, cast_cast, cast_eq]
    clean_types
    rfl

/-- Every claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frameReference, trivial, valueEqual⟩

end Cert.Proof

end
